-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x4096 : Shape := ⟨3, ![8, 1024, 4096]⟩
abbrev S1 : Shape := ⟨1, ![1]⟩
abbrev S4096x1792 : Shape := ⟨2, ![4096, 1792]⟩
abbrev S1792 : Shape := ⟨1, ![1792]⟩
abbrev S254 : Shape := ⟨1, ![254]⟩
abbrev S_ : Shape := ⟨0, ![]⟩
abbrev S1x1792 : Shape := ⟨2, ![1, 1792]⟩
abbrev S1024x8x1792 : Shape := ⟨3, ![1024, 8, 1792]⟩
abbrev S1x512x4096 : Shape := ⟨3, ![1, 512, 4096]⟩
abbrev S64x8x1792 : Shape := ⟨3, ![64, 8, 1792]⟩
abbrev S512x4096 : Shape := ⟨2, ![512, 4096]⟩
abbrev S512x1792 : Shape := ⟨2, ![512, 1792]⟩

abbrev nBuf : Space → Nat
  | .hbm => 45
  | .vmem => 8
  | .smem => 2
  | _ => 0

abbrev bufTy : (tb : Table) → Fin (tcTables nBuf tb) → BufTy
  | .hbm, ⟨0, _⟩ => ⟨S8x1024x4096, .bf16⟩
  | .hbm, ⟨1, _⟩ => ⟨S1, .f32⟩
  | .hbm, ⟨2, _⟩ => ⟨S4096x1792, .fp8e4m3⟩
  | .hbm, ⟨3, _⟩ => ⟨S1792, .f32⟩
  | .hbm, ⟨4, _⟩ => ⟨S254, .i32⟩
  | .hbm, ⟨5, _⟩ => ⟨S_, .i32⟩
  | .hbm, ⟨6, _⟩ => ⟨S254, .i32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S254, .f32⟩
  | .hbm, ⟨12, _⟩ => ⟨S1, .f32⟩
  | .hbm, ⟨13, _⟩ => ⟨S254, .f32⟩
  | .hbm, ⟨14, _⟩ => ⟨S254, .i1⟩
  | .hbm, ⟨15, _⟩ => ⟨S254, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S_, .f32⟩
  | .hbm, ⟨23, _⟩ => ⟨S1, .f32⟩
  | .hbm, ⟨24, _⟩ => ⟨S1, .i1⟩
  | .hbm, ⟨25, _⟩ => ⟨S1, .i1⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .f32⟩
  | .hbm, ⟨42, _⟩ => ⟨S1x1792, .f32⟩
  | .hbm, ⟨43, _⟩ => ⟨S1024x8x1792, .bf16⟩
  | .hbm, ⟨44, _⟩ => ⟨S8x1024x4096, .fp8e4m3⟩
  | .local _ .vmem, ⟨0, _⟩ => ⟨S1x512x4096, .bf16⟩
  | .local _ .vmem, ⟨1, _⟩ => ⟨S1x512x4096, .bf16⟩
  | .local _ .vmem, ⟨2, _⟩ => ⟨S4096x1792, .fp8e4m3⟩
  | .local _ .vmem, ⟨3, _⟩ => ⟨S1x1792, .f32⟩
  | .local _ .vmem, ⟨4, _⟩ => ⟨S64x8x1792, .bf16⟩
  | .local _ .vmem, ⟨5, _⟩ => ⟨S64x8x1792, .bf16⟩
  | .local _ .vmem, ⟨6, _⟩ => ⟨S1x512x4096, .fp8e4m3⟩
  | .local _ .vmem, ⟨7, _⟩ => ⟨S1x512x4096, .fp8e4m3⟩
  | .local _ .smem, ⟨0, _⟩ => ⟨S1, .f32⟩
  | .local _ .smem, ⟨1, _⟩ => ⟨S1, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x8x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x1024x4096 : Shape := ⟨3, ![8, 1024, 4096]⟩
abbrev S1 : Shape := ⟨1, ![1]⟩
abbrev S4096x1792 : Shape := ⟨2, ![4096, 1792]⟩
abbrev S1792 : Shape := ⟨1, ![1792]⟩
abbrev S254 : Shape := ⟨1, ![254]⟩
abbrev S_ : Shape := ⟨0, ![]⟩
abbrev S1024x8x1792 : Shape := ⟨3, ![1024, 8, 1792]⟩
abbrev S8x1024x1792 : Shape := ⟨3, ![8, 1024, 1792]⟩
abbrev S1x1x1792 : Shape := ⟨3, ![1, 1, 1792]⟩

abbrev nBuf : Space → Nat
  | .hbm => 49
  | .vmem => 5
  | .smem => 2
  | _ => 0

abbrev bufTy : (tb : Table) → Fin (tcTables nBuf tb) → BufTy
  | .hbm, ⟨0, _⟩ => ⟨S8x1024x4096, .bf16⟩
  | .hbm, ⟨1, _⟩ => ⟨S1, .f32⟩
  | .hbm, ⟨2, _⟩ => ⟨S4096x1792, .fp8e4m3⟩
  | .hbm, ⟨3, _⟩ => ⟨S1792, .f32⟩
  | .hbm, ⟨4, _⟩ => ⟨S254, .i32⟩
  | .hbm, ⟨5, _⟩ => ⟨S_, .i32⟩
  | .hbm, ⟨6, _⟩ => ⟨S254, .i32⟩
  | .hbm, ⟨7, _⟩ => ⟨S254, .i32⟩
  | .hbm, ⟨8, _⟩ => ⟨S1, .f32⟩
  | .hbm, ⟨9, _⟩ => ⟨S_, .f32⟩
  | .hbm, ⟨10, _⟩ => ⟨S254, .f32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S254, .f32⟩
  | .hbm, ⟨16, _⟩ => ⟨S254, .f32⟩
  | .hbm, ⟨17, _⟩ => ⟨S254, .i1⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i1⟩
  | .hbm, ⟨27, _⟩ => ⟨S_, .f32⟩
  | .hbm, ⟨28, _⟩ => ⟨S1, .f32⟩
  | .hbm, ⟨29, _⟩ => ⟨S1, .i1⟩
  | .hbm, ⟨30, _⟩ => ⟨S1, .i1⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S1, .i1⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1024x8x1792, .bf16⟩
  | .hbm, ⟨48, _⟩ => ⟨S8x1024x4096, .fp8e4m3⟩
  | .local _ .vmem, ⟨0, _⟩ => ⟨S8x1024x4096, .bf16⟩
  | .local _ .vmem, ⟨1, _⟩ => ⟨S4096x1792, .fp8e4m3⟩
  | .local _ .vmem, ⟨2, _⟩ => ⟨S1792, .f32⟩
  | .local _ .vmem, ⟨3, _⟩ => ⟨S1024x8x1792, .bf16⟩
  | .local _ .vmem, ⟨4, _⟩ => ⟨S8x1024x4096, .fp8e4m3⟩
  | .local _ .smem, ⟨0, _⟩ => ⟨S1, .f32⟩
  | .local _ .smem, ⟨1, _⟩ => ⟨S1, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  The mathematics that both programs are shown to compute, element by element over the extended reals: the fp8 code of
  one activation, the tanh form of gelu, and one element of the linear layer.
-/
module

public import Idealize.ShloMosaic.Lib.ValueIdx
public import Idealize.ShloMosaic.Lib.MatmulPlain

@[expose] public section

noncomputable section

namespace Cert.Proof.Spec

open Idealize.ShloMosaic Idealize.ShloMosaic.ValueIdx
open scoped BigOperators

/-- The code of one activation `x` at the inverse scale `s`: `x · s` clipped to ±448 (the range of e4m3). -/
def code (s x : EReal) : EReal :=
  min (Ideal.ofBits .f32 0x43E00000#32) (max (Ideal.ofBits .f32 0xC3E00000#32) (x * s))

/-- The tanh form of gelu: `z · (½ · (1 + tanh (√(2/π) · (z + 0.044715 · z³))))`, with the constants' f32 values. -/
def gelu (z : EReal) : EReal :=
  z * (Ideal.ofBits .f32 0x3F000000#32 * (Ideal.ofBits .f32 0x3F800000#32
    + FloatOps.tanh (F := Ideal) (φ := .f32) (Ideal.ofBits .f32 0x3F4C422A#32
        * (z + Ideal.ofBits .f32 0x3D372713#32 * (z * (z * z))))))

/-- One element of the layer: the row `x` of activations quantised at the inverse scale `s`, contracted with the column
    `w` of weight codes, times the product of the two scales, through gelu. -/
def elem (s xs : EReal) (x w : Fin 4096 → EReal) (ws : EReal) : EReal :=
  gelu ((∑ k : Fin 4096, code s (x k) * w k) * (xs * ws))

/-- The first result: element (g, u, n) is row `8 g + u` of the `8 · 1024` flattened rows, at column `n`. -/
def yArr (s xs : EReal) (x : (⟨3, ![8, 1024, 4096]⟩ : Shape).Idx → EReal) (w : (⟨2, ![4096, 1792]⟩ : Shape).Idx → EReal)
    (ws : Fin 1792 → EReal) : (⟨3, ![1024, 8, 1792]⟩ : Shape).Idx → EReal :=
  fun i => elem s xs
    (fun k => x (ix3 ⟨(8 * (i 0).val + (i 1).val) / 1024, by have h0 : (i 0).val < 1024 := (i 0).isLt; have h1 : (i 1).val < 8 := (i 1).isLt; omega⟩
      ⟨(8 * (i 0).val + (i 1).val) % 1024, Nat.mod_lt _ (by decide)⟩ k))
    (fun k => w (ix2 k (i 2))) (ws (i 2))

/-- The second result: the codes. -/
def codeArr (s : EReal) (x : (⟨3, ![8, 1024, 4096]⟩ : Shape).Idx → EReal) : (⟨3, ![8, 1024, 4096]⟩ : Shape).Idx → EReal :=
  fun i => code s (x i)

end Cert.Proof.Spec

end
-- ==== Proof.Payload.lean ====
/-
  The kernel's and the reference's stored values read at one index, at the ideal instance: each is the element that
  Spec.lean names, of the loaded blocks.
-/
module

public import proofs.«01_k».proof.Proof.Spec
public import proofs.«01_k».proof.Proof.Gen.KernelIdeal.Skeleton
public import proofs.«01_k».proof.Proof.Gen.ReferenceIdeal.Skeleton
public import Idealize.ShloMosaic.Lib.Pipeline.Value

@[expose] public section

noncomputable section

namespace Cert.Proof.Payload

open Idealize.ShloMosaic Idealize.ShloMosaic.ValueIdx
open Cert.Proof.Spec
open scoped BigOperators

section Kernel
open Cert.KernelIdeal Cert.KernelIdeal.Gen

/-- One code of the kernel's block. -/
theorem pay1_apply (s : Elt Ideal .f32) (x : Vec Ideal S1x512x4096 .bf16) (r : Fin 512) (k : Fin 4096) :
    k0_pay1 (F := Ideal) s x (ix2 r k) = code s (x (ix3 0 r k)) := by
  have h : shapeCast S512x4096 x shapeCasts_S1x512x4096_S512x4096 (ix2 r k) = x (ix3 0 r k) := by
    rw [shapeCast_dropUnit_apply (![512, 4096])]
    refine congrArg x (funext fun a => ?_)
    match a with | ⟨0, _⟩ => rfl | ⟨1, _⟩ => rfl | ⟨2, _⟩ => rfl
  rw [← h]
  rfl

/-- … as it is stored. -/
theorem pay2_apply (s : Elt Ideal .f32) (x : Vec Ideal S1x512x4096 .bf16) (z : Fin 1) (r : Fin 512) (k : Fin 4096) :
    k0_pay2 (F := Ideal) s x (ix3 z r k) = code s (x (ix3 z r k)) := by
  have hz : z = 0 := Subsingleton.elim _ _
  subst hz
  rw [← pay1_apply]
  show shapeCast S1x512x4096 (k0_pay1 (F := Ideal) s x) shapeCasts_S512x4096_S1x512x4096 _ = _
  rw [shapeCast_addUnit_apply (![512, 4096])]
  refine congrArg _ (funext fun a => ?_)
  match a with | ⟨0, _⟩ => rfl | ⟨1, _⟩ => rfl

/-- One element of the kernel's output block, at row `8 g + u` of the block. -/
theorem pay3_apply (s : Elt Ideal .f32) (x : Vec Ideal S1x512x4096 .bf16) (w : Vec Ideal S4096x1792 .fp8e4m3)
    (xs : Elt Ideal .f32) (ws : Vec Ideal S1x1792 .f32) (g : Fin 64) (u : Fin 8) (n : Fin 1792) (r : Fin 512)
    (hr : r.val = 8 * g.val + u.val) :
    k0_pay3 (F := Ideal) s x w xs ws (ix3 g u n)
      = elem s xs (fun k => x (ix3 0 r k)) (fun k => w (ix2 k n)) (ws (ix2 0 n)) := by
  have hm : matmul (F := Ideal) (φ₁ := .fp8e4m3) (φ₂ := .fp8e4m3) dot_S512x4096_S4096x1792_S512x1792_1_0_0_1_n_n none (k0_pay1 s x) w (constant S512x1792 .f32 0x00000000#32) (ix2 r n)
      = ∑ k : Fin 4096, code s (x (ix3 0 r k)) * w (ix2 k n) := by
    refine (Ideal.matmul_plain_apply (M := 512) (K := 4096) (N := 1792) none (k0_pay1 (F := Ideal) s x) w _ r n).trans ?_
    have h0 : constant (F := Ideal) S512x1792 .f32 0x00000000#32 (ix2 r n) = 0 := by
      show Ideal.ofBits .f32 0x00000000#32 = 0
      simp [Ideal.ofBits, Ideal.ieee]
    rw [h0, zero_add]
    exact Finset.sum_congr rfl fun k _ => by rw [pay1_apply]
  have hb : broadcastTo S512x1792 (mulf (F := Ideal) (φ := .f32) (broadcast S1x1792 xs) (shapeCast S1x1792 ws shapeCasts_S1x1792_S1x1792)) broadcasts_S1x1792_S512x1792 (ix2 r n)
      = xs * ws (ix2 0 n) := by
    rw [broadcastTo_apply _ _ _ (ix2 0 n) (fun a => by match a with | ⟨0, _⟩ => rfl | ⟨1, _⟩ => rfl), shapeCast_self]
    rfl
  unfold elem
  rw [← hm, ← hb]
  unfold k0_pay3 truncf
  rw [shapeCast_apply _ _ _ (ix2 r n) (by
    rw [Shape.rowMajor_val_two, Shape.rowMajor_val_three]
    show r.val * 1792 + n.val = (g.val * 8 + u.val) * 1792 + n.val
    rw [hr, Nat.mul_comm g.val 8])]
  rfl

end Kernel

section Reference
open Cert.ReferenceIdeal Cert.ReferenceIdeal.Gen

/-- One code of the reference's array. -/
theorem ref_pay1_apply (x : Vec Ideal S8x1024x4096 .bf16) (s : Elt Ideal .f32) (i : S8x1024x4096.Idx) :
    k0_pay1 (F := Ideal) x s i = code s (x i) := rfl

/-- One element of the reference's array: row `q` of batch `b` is row `8 g + u` of the result. -/
theorem ref_pay2_apply (x : Vec Ideal S8x1024x4096 .bf16) (s : Elt Ideal .f32) (w : Vec Ideal S4096x1792 .fp8e4m3)
    (xs : Elt Ideal .f32) (ws : Vec Ideal S1792 .f32) (g : Fin 1024) (u : Fin 8) (n : Fin 1792) (b : Fin 8) (q : Fin 1024)
    (hr : 1024 * b.val + q.val = 8 * g.val + u.val) :
    k0_pay2 (F := Ideal) x s w xs ws (ix3 g u n)
      = elem s xs (fun k => x (ix3 b q k)) (fun k => w (ix2 k n)) (ws (ix1 n)) := by
  have hm : matmul (F := Ideal) (φ₁ := .fp8e4m3) (φ₂ := .fp8e4m3) dot_S8x1024x4096_S4096x1792_S8x1024x1792_2_0_01_1_n_n none (k0_pay1 x s) w (constant S8x1024x1792 .f32 0x00000000#32) (ix3 b q n)
      = ∑ k : Fin 4096, code s (x (ix3 b q k)) * w (ix2 k n) := by
    let D := dot_S8x1024x4096_S4096x1792_S8x1024x1792_2_0_01_1_n_n
    refine (Ideal.matmul_apply D none (k0_pay1 (F := Ideal) x s) w _ (ix3 b q n)).trans ?_
    have h0 : constant (F := Ideal) S8x1024x1792 .f32 0x00000000#32 (ix3 b q n) = 0 := by
      show Ideal.ofBits .f32 0x00000000#32 = 0
      simp [Ideal.ofBits, Ideal.ieee]
    rw [h0, zero_add, ← Equiv.sum_comp (contrEquiv1 D 4096 rfl rfl).symm]
    refine Finset.sum_congr rfl fun k _ => ?_
    have hk := contrEquiv1_symm_val D 4096 rfl rfl k
    have el : D.lhsIdx (ix3 b q n) ((contrEquiv1 D 4096 rfl rfl).symm k) = ix3 b q k := by
      funext a; apply Fin.ext
      match a with
      | ⟨0, _⟩ => rfl
      | ⟨1, _⟩ => rfl
      | ⟨2, _⟩ => exact hk
    have er : D.rhsIdx (ix3 b q n) ((contrEquiv1 D 4096 rfl rfl).symm k) = ix2 k n := by
      funext a; apply Fin.ext
      match a with
      | ⟨0, _⟩ => exact hk
      | ⟨1, _⟩ => rfl
    rw [el, er, ref_pay1_apply]
  have hb : broadcastTo S8x1024x1792 (shapeCast S1x1x1792 (mulf (F := Ideal) (φ := .f32) (broadcast S1792 xs) ws) shapeCasts_S1792_S1x1x1792) broadcasts_S1x1x1792_S8x1024x1792 (ix3 b q n)
      = xs * ws (ix1 n) := by
    rw [broadcastTo_apply _ _ _ (ix3 0 0 n) (fun a => by match a with | ⟨0, _⟩ => rfl | ⟨1, _⟩ => rfl | ⟨2, _⟩ => rfl),
      shapeCast_apply _ _ _ (ix1 n) (by
        rw [Shape.rowMajor_val_one, Shape.rowMajor_val_three]
        show n.val = (0 * 1 + 0) * 1792 + n.val
        omega)]
    rfl
  unfold elem
  rw [← hm, ← hb]
  unfold k0_pay2
  rw [shapeCast_apply _ _ _ (ix3 b q n) (by
    rw [Shape.rowMajor_val_three, Shape.rowMajor_val_three]
    show (b.val * 1024 + q.val) * 1792 + n.val = (g.val * 8 + u.val) * 1792 + n.val
    have : b.val * 1024 + q.val = g.val * 8 + u.val := by omega
    rw [this])]
  rfl

end Reference

end Cert.Proof.Payload

end
-- ==== Proof.KernelArr.lean ====
/-
  The kernel's two output arrays after the run, each as one function of the arrays that the call finds: block by block
  what the body stores is the whole-array function read through the block, and the blocks cover the arrays.
-/
module

public import proofs.«01_k».proof.Proof.Payload
public import proofs.«01_k».proof.Proof.Gen.KernelIdeal.Value

@[expose] public section

noncomputable section

namespace Cert.Proof.KernelArr

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Proof.Spec Cert.Proof.Payload

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]
variable (c : Dev nD) (t : Fin cfg0.N)
  (x0 : Vec F S1 .f32) (x1 : Vec F S1 .f32) (x2 : Vec F S1x512x4096 .bf16) (x3 : Vec F S4096x1792 .fp8e4m3) (x4 : Vec F S1x1792 .f32)

/-- A scalar load of a one-element buffer reads its element. -/
theorem ld_scalar (x : Vec F S1 .f32) (h) (h') :
    View.ld x (Rect.unit (s := S1) ![0] ![1] h) (Shape.Idx.first h') = x (ix1 0) :=
  congrArg x (funext fun a => match a with | ⟨0, _⟩ => Subsingleton.elim (α := Fin 1) _ _)

/-- The y block that the body leaves. -/
theorem out5 :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay3 (x0 (ix1 0)) x2 x3 (x1 (ix1 0)) x4 := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x512x4096) hz3, View.ld_unit_zero (S := S4096x1792) hz2, View.ld_unit_zero (S := S1x1792) hz2]
  exact (View.canon_unit_zero (S := S64x8x1792) hz3 _ _).trans (by rw [ld_scalar x0, ld_scalar x1])

/-- The block of codes that it leaves. -/
theorem out6 :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay2 (x0 (ix1 0)) x2 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  sl_unfold_words
  simp only [View.readAt_eq_ld, (hs0_0 t).read_unread, (hs0_2 t).read_unread]
  simp only [View.ld_unit_zero (S := S1x512x4096) hz3]
  exact (View.canon_unit_zero (S := S1x512x4096) hz3 _ _).trans (by rw [ld_scalar x0])

end Body

/-! ## The blocks -/

variable (m : (ℓ : Loc nD τ sig) → Buf (Elt Ideal) ℓ) (c : Dev nD) (t : Fin cfg0.N)

/-- Where the blocks lie: point `t` works on batch `t / 2`, rows `512 · (t % 2)` on, and writes row groups `64 t` on. -/
theorem index_eq : ∀ t : Fin grid0.N,
    win0_2.index t 0 = t.val / 2 ∧ win0_2.index t 1 = t.val % 2 ∧ win0_2.index t 2 = 0
    ∧ win0_3.index t 0 = 0 ∧ win0_3.index t 1 = 0 ∧ win0_4.index t 0 = 0 ∧ win0_4.index t 1 = 0
    ∧ win0_5.index t 0 = t.val ∧ win0_5.index t 1 = 0 ∧ win0_5.index t 2 = 0
    ∧ win0_6.index t 0 = t.val / 2 ∧ win0_6.index t 1 = t.val % 2 ∧ win0_6.index t 2 = 0
    ∧ win0_0.index t 0 = 0 ∧ win0_1.index t 0 = 0 := by
  decide +kernel

theorem t_lt : t.val < 16 := lt_of_lt_of_eq t.isLt N_0

/-- The two scalars' blocks are the scalars. -/
theorem iblk0 : iblk m c 0 t (ix1 0) = V m c main_v27 (ix1 0) := by
  obtain ⟨-, -, -, -, -, -, -, -, -, -, -, -, -, h0, h1⟩ := index_eq t
  refine congrArg (V m c main_v27) (funext fun a => Fin.ext ?_)
  match a with
  | ⟨0, _⟩ => exact (win0_0.rect_emb_val t (ix1 0) 0).trans (by rw [h0]; rfl)
theorem iblk1 : iblk m c 1 t (ix1 0) = V m c main_arg1 (ix1 0) := by
  obtain ⟨-, -, -, -, -, -, -, -, -, -, -, -, -, h0, h1⟩ := index_eq t
  refine congrArg (V m c main_arg1) (funext fun a => Fin.ext ?_)
  match a with
  | ⟨0, _⟩ => exact (win0_1.rect_emb_val t (ix1 0) 0).trans (by rw [h1]; rfl)

/-- The block of activations. -/
theorem iblk2 (r : Fin 512) (k : Fin 4096) (b : Fin 8) (q : Fin 1024) (hb : b.val = t.val / 2) (hq : q.val = 512 * (t.val % 2) + r.val) :
    iblk m c 2 t (ix3 0 r k) = V m c main_arg0 (ix3 b q k) := by
  obtain ⟨h0, h1, h2, -⟩ := index_eq t
  refine congrArg (V m c main_arg0) (funext fun a => Fin.ext ?_)
  match a with
  | ⟨0, _⟩ => exact (win0_2.rect_emb_val t (ix3 0 r k) 0).trans (by rw [h0]; show t.val / 2 * 1 + 0 = b.val; omega)
  | ⟨1, _⟩ => exact (win0_2.rect_emb_val t (ix3 0 r k) 1).trans (by rw [h1]; show t.val % 2 * 512 + r.val = q.val; omega)
  | ⟨2, _⟩ => exact (win0_2.rect_emb_val t (ix3 0 r k) 2).trans (by rw [h2]; show 0 * 4096 + k.val = k.val; omega)

/-- The weights' block is the whole array. -/
theorem iblk3 (k : Fin 4096) (n : Fin 1792) : iblk m c 3 t (ix2 k n) = V m c main_arg2 (ix2 k n) := by
  obtain ⟨-, -, -, h0, h1, -⟩ := index_eq t
  refine congrArg (V m c main_arg2) (funext fun a => Fin.ext ?_)
  match a with
  | ⟨0, _⟩ => exact (win0_3.rect_emb_val t (ix2 k n) 0).trans (by rw [h0]; show 0 * 4096 + k.val = k.val; omega)
  | ⟨1, _⟩ => exact (win0_3.rect_emb_val t (ix2 k n) 1).trans (by rw [h1]; show 0 * 1792 + n.val = n.val; omega)

/-- … and so is the weight scales'. -/
theorem iblk4 (n : Fin 1792) : iblk m c 4 t (ix2 0 n) = V m c main_v28 (ix2 0 n) := by
  obtain ⟨-, -, -, -, -, h0, h1, -⟩ := index_eq t
  refine congrArg (V m c main_v28) (funext fun a => Fin.ext ?_)
  match a with
  | ⟨0, _⟩ => exact (win0_4.rect_emb_val t (ix2 0 n) 0).trans (by rw [h0]; show 0 * 1 + 0 = 0; omega)
  | ⟨1, _⟩ => exact (win0_4.rect_emb_val t (ix2 0 n) 1).trans (by rw [h1]; show 0 * 1792 + n.val = n.val; omega)

/-! ## The arrays -/

/-- What the first result array is shown to hold. -/
abbrev yG : Buf (Elt Ideal) ((c : Thread nD τ).loc main_v29_0) :=
  yArr (V m c main_v27 (ix1 0)) (V m c main_arg1 (ix1 0)) (V m c main_arg0) (V m c main_arg2) (fun n => V m c main_v28 (ix2 0 n))

/-- What the second result array is shown to hold. -/
abbrev codeG : Buf (Elt Ideal) ((c : Thread nD τ).loc main_v29_1) :=
  codeArr (V m c main_v27 (ix1 0)) (V m c main_arg0)

/-- The y block that point `t` writes back is the whole array's. -/
theorem flushed5_eq : (dats m 0 c).flushed 5 t = ((cfg0.win 5).blk t).view.read (Elt Ideal) (yG m c) := by
  rw [Value.flushed5_A, out5]
  funext (j : S64x8x1792.Idx)
  obtain ⟨g, u, n, rfl⟩ : ∃ g u n, j = ix3 g u n := ⟨_, _, _, eq_ix3 j⟩
  obtain ⟨-, -, -, -, -, -, -, h0, h1, h2, -⟩ := index_eq t
  have e0 : ((win0_5.rect t).emb (ix3 g u n) 0 : Nat) = t.val * 64 + g.val := by rw [win0_5.rect_emb_val t (ix3 g u n) 0, h0]; rfl
  have e1 : ((win0_5.rect t).emb (ix3 g u n) 1 : Nat) = u.val := by rw [win0_5.rect_emb_val t (ix3 g u n) 1, h1]; show 0 * 8 + u.val = _; omega
  have e2 : (win0_5.rect t).emb (ix3 g u n) 2 = n := Fin.ext (by rw [win0_5.rect_emb_val t (ix3 g u n) 2, h2]; show 0 * 1792 + n.val = _; omega)
  have ht := t_lt t
  refine (pay3_apply _ _ _ _ _ g u n ⟨8 * g.val + u.val, by omega⟩ rfl).trans ?_
  show _ = yG m c ((win0_5.rect t).emb (ix3 g u n))
  unfold yG yArr
  rw [e2, iblk0, iblk1, iblk4]
  congr 1
  · funext k
    exact iblk2 m c t _ k _ _ (by show (8 * _ + _) / 1024 = _; rw [e0, e1]; omega)
      (by show (8 * _ + _) % 1024 = _; rw [e0, e1]; show _ = 512 * (t.val % 2) + (8 * g.val + u.val); omega)
  · funext k
    exact iblk3 m c t k n

/-- The block of codes that point `t` writes back is the whole array's. -/
theorem flushed6_eq : (dats m 0 c).flushed 6 t = ((cfg0.win 6).blk t).view.read (Elt Ideal) (codeG m c) := by
  rw [Value.flushed6_A, out6]
  funext (j : S1x512x4096.Idx)
  obtain ⟨z, r, k, rfl⟩ : ∃ z r k, j = ix3 z r k := ⟨_, _, _, eq_ix3 j⟩
  obtain ⟨-, -, -, -, -, -, -, -, -, -, h0, h1, h2, -⟩ := index_eq t
  have ht := t_lt t
  have hz : z = 0 := Subsingleton.elim _ _
  subst hz
  refine (pay2_apply _ _ 0 r k).trans ?_
  show _ = codeG m c ((win0_6.rect t).emb (ix3 0 r k))
  have e : (win0_6.rect t).emb (ix3 0 r k) = (ix3 ⟨t.val / 2, by omega⟩ ⟨512 * (t.val % 2) + r.val, by omega⟩ k : S8x1024x4096.Idx) := by
    funext a; apply Fin.ext
    match a with
    | ⟨0, _⟩ => exact (win0_6.rect_emb_val t (ix3 0 r k) 0).trans (by rw [h0]; show t.val / 2 * 1 + 0 = t.val / 2; omega)
    | ⟨1, _⟩ => exact (win0_6.rect_emb_val t (ix3 0 r k) 1).trans (by rw [h1]; show t.val % 2 * 512 + r.val = 512 * (t.val % 2) + r.val; omega)
    | ⟨2, _⟩ => exact (win0_6.rect_emb_val t (ix3 0 r k) 2).trans (by rw [h2]; show 0 * 4096 + k.val = k.val; omega)
  rw [e, iblk0, iblk2 m c t r k ⟨t.val / 2, by omega⟩ ⟨512 * (t.val % 2) + r.val, by omega⟩ rfl rfl]
  rfl

/-- The y blocks cover the array. -/
theorem cover5 (i : S1024x8x1792.Idx) : ∃ t : Fin cfg0.N, (cfg0.win 5).flush t = true ∧ i ∈ ((cfg0.win 5).blk t).view.set := by
  have b0 : (i 0).val < 1024 := (i 0).isLt
  have b1 : (i 1).val < 8 := (i 1).isLt
  have b2 : (i 2).val < 1792 := (i 2).isLt
  let t : Fin cfg0.N := ⟨(i 0).val / 64, lt_of_lt_of_eq (by omega) N_0.symm⟩
  refine ⟨t, flush0_5 t, ?_⟩
  obtain ⟨-, -, -, -, -, -, -, h0, h1, h2, -⟩ := index_eq t
  show i ∈ ((View.whole main_v29_0).slice (win0_5.rect t)).set
  rw [View.set_slice_whole, Rect.mem_set_unit]
  intro a
  match a with
  | ⟨0, _⟩ => show win0_5.index t 0 * 64 ≤ (i 0).val ∧ (i 0).val < win0_5.index t 0 * 64 + 64
              rw [h0]; dsimp only [t]; omega
  | ⟨1, _⟩ => show win0_5.index t 1 * 8 ≤ (i 1).val ∧ (i 1).val < win0_5.index t 1 * 8 + 8
              rw [h1]; omega
  | ⟨2, _⟩ => show win0_5.index t 2 * 1792 ≤ (i 2).val ∧ (i 2).val < win0_5.index t 2 * 1792 + 1792
              rw [h2]; omega

/-- The blocks of codes cover theirs. -/
theorem cover6 (i : S8x1024x4096.Idx) : ∃ t : Fin cfg0.N, (cfg0.win 6).flush t = true ∧ i ∈ ((cfg0.win 6).blk t).view.set := by
  have b0 : (i 0).val < 8 := (i 0).isLt
  have b1 : (i 1).val < 1024 := (i 1).isLt
  have b2 : (i 2).val < 4096 := (i 2).isLt
  let t : Fin cfg0.N := ⟨2 * (i 0).val + (i 1).val / 512, lt_of_lt_of_eq (by omega) N_0.symm⟩
  refine ⟨t, flush0_6 t, ?_⟩
  obtain ⟨-, -, -, -, -, -, -, -, -, -, h0, h1, h2, -⟩ := index_eq t
  show i ∈ ((View.whole main_v29_1).slice (win0_6.rect t)).set
  rw [View.set_slice_whole, Rect.mem_set_unit]
  intro a
  match a with
  | ⟨0, _⟩ => show win0_6.index t 0 * 1 ≤ (i 0).val ∧ (i 0).val < win0_6.index t 0 * 1 + 1
              rw [h0]; dsimp only [t]; omega
  | ⟨1, _⟩ => show win0_6.index t 1 * 512 ≤ (i 1).val ∧ (i 1).val < win0_6.index t 1 * 512 + 512
              rw [h1]; dsimp only [t]; omega
  | ⟨2, _⟩ => show win0_6.index t 2 * 4096 ≤ (i 2).val ∧ (i 2).val < win0_6.index t 2 * 4096 + 4096
              rw [h2]; omega

/-- The first result array after the run. -/
theorem final5 : (dats m 0 c).arrAt 5 cfg0.N = yG m c :=
  (dats m 0 c).arrAt_eq_of_cover 5 (yG m c) (fun t _ => flushed5_eq m c t) cover5

/-- The second result array after the run. -/
theorem final6 : (dats m 0 c).arrAt 6 cfg0.N = codeG m c :=
  (dats m 0 c).arrAt_eq_of_cover 6 (codeG m c) (fun t _ => flushed6_eq m c t) cover6

end Cert.Proof.KernelArr

end
-- ==== Proof.RefArr.lean ====
/-
  The reference's two output arrays after the run, each as one function of the arrays that the call finds. The call has
  no grid: its one block of every array is the array.
-/
module

public import proofs.«01_k».proof.Proof.Payload
public import proofs.«01_k».proof.Proof.Gen.ReferenceIdeal.Value

@[expose] public section

noncomputable section

namespace Cert.Proof.RefArr

open Idealize.ShloMosaic Idealize.ShloMosaic.TcCoe Idealize.SL.Sem Idealize.ShloMosaic.ValueIdx
open Idealize.ShloMosaic.Pipeline (Dat Cfg Window)
open Cert.ReferenceIdeal Cert.ReferenceIdeal.Gen Cert.Proof.Spec Cert.Proof.Payload

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Body
variable {F : FTy → Type} [FloatOps F]
variable (c : Dev nD) (t : Fin cfg0.N)
  (x0 : Vec F S1 .f32) (x1 : Vec F S1 .f32) (x2 : Vec F S8x1024x4096 .bf16) (x3 : Vec F S4096x1792 .fp8e4m3) (x4 : Vec F S1792 .f32)

/-- A scalar load of a one-element buffer reads its element. -/
theorem ld_scalar (x : Vec F S1 .f32) (h) (h') :
    View.ld x (Rect.unit (s := S1) ![0] ![1] h) (Shape.Idx.first h') = x (ix1 0) :=
  congrArg x (funext fun a => match a with | ⟨0, _⟩ => Subsingleton.elim (α := Fin 1) _ _)

/-- The y array that the body leaves. -/
theorem out5 :
    out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay2 x2 (x0 (ix1 0)) x3 (x1 (ix1 0)) x4 := by
  unfold out0_A_5
  rw [View.read_writes_eq_canon _ _ _ (cover0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S8x1024x4096) hz3, View.ld_unit_zero (S := S4096x1792) hz2, View.ld_unit_zero (S := S1792) hz1]
  exact (View.canon_unit_zero (S := S1024x8x1792) hz3 _ _).trans (by rw [ld_scalar x0, ld_scalar x1])

/-- The array of codes that it leaves. -/
theorem out6 :
    out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay1 x2 (x0 (ix1 0)) := by
  unfold out0_A_6
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  sl_unfold_words
  simp only [View.readAt_eq_ld, (hs0_0 t).read_unread, (hs0_2 t).read_unread]
  simp only [View.ld_unit_zero (S := S8x1024x4096) hz3]
  exact (View.canon_unit_zero (S := S8x1024x4096) hz3 _ _).trans (by rw [ld_scalar x0])

end Body

/-! ## The blocks are the arrays -/

variable (m : (ℓ : Loc nD τ sig) → Buf (Elt Ideal) ℓ) (c : Dev nD) (t : Fin cfg0.N)

theorem index_eq : ∀ t : Fin grid0.N,
    (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) := by
  decide +kernel

theorem iblk0 (i : S1.Idx) : iblk m c 0 t i = V m c main_v30 i :=
  congrArg (V m c main_v30) (funext fun a => Fin.ext (win0_0.rect_emb_val_of_index_zero t a ((index_eq t).1 a) i))
theorem iblk1 (i : S1.Idx) : iblk m c 1 t i = V m c main_arg1 i :=
  congrArg (V m c main_arg1) (funext fun a => Fin.ext (win0_1.rect_emb_val_of_index_zero t a ((index_eq t).2.1 a) i))
theorem iblk2 (i : S8x1024x4096.Idx) : iblk m c 2 t i = V m c main_arg0 i :=
  congrArg (V m c main_arg0) (funext fun a => Fin.ext (win0_2.rect_emb_val_of_index_zero t a ((index_eq t).2.2.1 a) i))
theorem iblk3 (i : S4096x1792.Idx) : iblk m c 3 t i = V m c main_arg2 i :=
  congrArg (V m c main_arg2) (funext fun a => Fin.ext (win0_3.rect_emb_val_of_index_zero t a ((index_eq t).2.2.2.1 a) i))
theorem iblk4 (i : S1792.Idx) : iblk m c 4 t i = V m c main_arg3 i :=
  congrArg (V m c main_arg3) (funext fun a => Fin.ext (win0_4.rect_emb_val_of_index_zero t a ((index_eq t).2.2.2.2.1 a) i))
theorem emb5 (i : S1024x8x1792.Idx) : (win0_5.rect t).emb i = i :=
  funext fun a => Fin.ext (win0_5.rect_emb_val_of_index_zero t a ((index_eq t).2.2.2.2.2.1 a) i)
theorem emb6 (i : S8x1024x4096.Idx) : (win0_6.rect t).emb i = i :=
  funext fun a => Fin.ext (win0_6.rect_emb_val_of_index_zero t a ((index_eq t).2.2.2.2.2.2 a) i)

/-! ## The arrays -/

/-- What the first result array is shown to hold. -/
abbrev yG : Buf (Elt Ideal) ((c : Thread nD τ).loc main_v31_0) :=
  yArr (V m c main_v30 (ix1 0)) (V m c main_arg1 (ix1 0)) (V m c main_arg0) (V m c main_arg2) (fun n => V m c main_arg3 (ix1 n))

/-- What the second result array is shown to hold. -/
abbrev codeG : Buf (Elt Ideal) ((c : Thread nD τ).loc main_v31_1) :=
  codeArr (V m c main_v30 (ix1 0)) (V m c main_arg0)

theorem flushed5_eq : (dats m 0 c).flushed 5 t = ((cfg0.win 5).blk t).view.read (Elt Ideal) (yG m c) := by
  rw [Value.flushed5_A, out5]
  funext (j : S1024x8x1792.Idx)
  obtain ⟨g, u, n, rfl⟩ : ∃ g u n, j = ix3 g u n := ⟨_, _, _, eq_ix3 j⟩
  refine (ref_pay2_apply _ _ _ _ _ g u n ⟨(8 * g.val + u.val) / 1024, by omega⟩ ⟨(8 * g.val + u.val) % 1024, Nat.mod_lt _ (by decide)⟩
    (Nat.div_add_mod _ _)).trans ?_
  show _ = yG m c ((win0_5.rect t).emb (ix3 g u n))
  rw [emb5, iblk0, iblk1, iblk4]
  unfold yG yArr
  congr 1
  · funext k
    exact iblk2 m c t _
  · funext k
    exact iblk3 m c t _

theorem flushed6_eq : (dats m 0 c).flushed 6 t = ((cfg0.win 6).blk t).view.read (Elt Ideal) (codeG m c) := by
  rw [Value.flushed6_A, out6]
  funext (j : S8x1024x4096.Idx)
  refine (ref_pay1_apply _ _ j).trans ?_
  show _ = codeG m c ((win0_6.rect t).emb j)
  rw [emb6, iblk0, iblk2]
  rfl

theorem cover5 (i : S1024x8x1792.Idx) : ∃ t : Fin cfg0.N, (cfg0.win 5).flush t = true ∧ i ∈ ((cfg0.win 5).blk t).view.set := by
  let t : Fin cfg0.N := ⟨0, by decide⟩
  refine ⟨t, by decide, ?_⟩
  have h := ((cfg0.win 5).blk t).view.emb_mem_set i
  exact (emb5 t i) ▸ h

theorem cover6 (i : S8x1024x4096.Idx) : ∃ t : Fin cfg0.N, (cfg0.win 6).flush t = true ∧ i ∈ ((cfg0.win 6).blk t).view.set := by
  let t : Fin cfg0.N := ⟨0, by decide⟩
  refine ⟨t, by decide, ?_⟩
  have h := ((cfg0.win 6).blk t).view.emb_mem_set i
  exact (emb6 t i) ▸ h

/-- The first result array after the run. -/
theorem final5 : (dats m 0 c).arrAt 5 cfg0.N = yG m c :=
  (dats m 0 c).arrAt_eq_of_cover 5 (yG m c) (fun t _ => flushed5_eq m c t) cover5

/-- The second result array after the run. -/
theorem final6 : (dats m 0 c).arrAt 6 cfg0.N = codeG m c :=
  (dats m 0 c).arrAt_eq_of_cover 6 (codeG m c) (fun t _ => flushed6_eq m c t) cover6

end Cert.Proof.RefArr

end
-- ==== Proof.Scale.lean ====
/-
  The inverse scale `2 ^ (1 - e)`, `e` the exponent of the activation scale: the kernel's host code counts the
  powers of two not above the scale and reads them from their bits, the reference takes the greatest exponent and writes
  the powers as powers. Here both are functions of the one scale, and the two are equal.
-/
module

public import proofs.«01_k».proof.Proof.Gen.KernelIdeal.Value
public import proofs.«01_k».proof.Proof.Gen.ReferenceIdeal.Value
public import Idealize.ShloMosaic.Lib.ValueIdx

@[expose] public section

noncomputable section

namespace Cert.Proof.Scale

open Idealize.ShloMosaic Idealize.ShloMosaic.TcCoe Idealize.SL.Sem Idealize.ShloMosaic.ValueIdx
open Cert.KernelIdeal Cert.KernelIdeal.Gen

/-! ## The two programs' host code as functions of the scale -/

/-- The mask "the `k`-th power is at most |a|" of a table of powers. -/
def mask (table : FVec Ideal S254 .f32) (a : FVec Ideal S1 .f32) : IVec S254 1 :=
  cmpf .ole table (broadcastInDim S254 ![0] bcast_S1_S254_0 (Host.absf a))

/-- How many entries of a mask are set. -/
def count (p : IVec S254 1) : IVec S_ 32 :=
  Host.reduce IntOp.addi (extui 32 p natLt_1_32) (constantI S_ 32 0#32) reducesTo_S254_S_d0 h_S_

/-- The kernel's exponent: 0 at zero, at a subnormal and at infinity, else the count of the powers less 126. -/
def expo (n : IVec S_ 32) (a : FVec Ideal S1 .f32) : IVec S1 32 :=
  select (ori (cmpi .eq (broadcastInDim S1 ![] bcast_S_S1 n) (broadcastInDim S1 ![] bcast_S_S1 (constantI S_ 32 0#32)))
      (cmpf .oeq (Host.absf a) (broadcastInDim S1 ![] bcast_S_S1 (constant (F := Ideal) S_ .f32 0x7F800000#32))))
    (broadcastInDim S1 ![] bcast_S_S1 (constantI S_ 32 0#32))
    (subi (broadcastInDim S1 ![] bcast_S_S1 n) (broadcastInDim S1 ![] bcast_S_S1 (constantI S_ 32 126#32)))

/-- The kernel's table of powers: the words whose exponent field counts up from 1. -/
def kTable : FVec Ideal S254 .f32 :=
  bitcastToFloat .f32 (Host.shli (addi (iotaInDim S254 32 0) (broadcastInDim S254 ![] bcast_S_S254 (constantI S_ 32 1#32)))
    (broadcastInDim S254 ![] bcast_S_S254 (constantI S_ 32 23#32)))

/-- The reference's exponents: -125, …, 128. -/
def rExps : IVec S254 32 :=
  subi (iotaInDim S254 32 0) (broadcastInDim S254 ![] bcast_S_S254 (constantI S_ 32 125#32))

/-- Its table: 2 to the power of the exponent less one. -/
def rTable : FVec Ideal S254 .f32 :=
  Host.powf (broadcastInDim S254 ![] bcast_S_S254 (constant (F := Ideal) S_ .f32 0x40000000#32))
    (sitofp .f32 (subi rExps (broadcastInDim S254 ![] bcast_S_S254 (constantI S_ 32 1#32))))

/-- The greatest exponent of a mask, -126 of the empty one. -/
def top (p : IVec S254 1) : IVec S_ 32 :=
  Host.reduce IntOp.maxsi (select p rExps (broadcastInDim S254 ![] bcast_S_S254 (constantI S_ 32 4294967170#32)))
    (constantI S_ 32 2147483648#32) reducesTo_S254_S_d0 h_S_

/-- The reference's exponent: 0 at zero, at a subnormal and at infinity, else the greatest. -/
def rExpo (n : IVec S_ 32) (a : FVec Ideal S1 .f32) : IVec S1 32 :=
  select (ori (cmpi .eq (broadcastInDim S1 ![] bcast_S_S1 n) (broadcastInDim S1 ![] bcast_S_S1 (constantI S_ 32 4294967170#32)))
      (cmpf .oeq (Host.absf a) (broadcastInDim S1 ![] bcast_S_S1 (constant (F := Ideal) S_ .f32 0x7F800000#32))))
    (broadcastInDim S1 ![] bcast_S_S1 (constantI S_ 32 0#32)) (broadcastInDim S1 ![] bcast_S_S1 n)

/-- The kernel's inverse scale from the exponent. -/
def kInv (e : IVec S1 32) : FVec Ideal S1 .f32 :=
  bitcastToFloat .f32 (Host.shli
    (addi (subi (broadcastInDim S1 ![] bcast_S_S1 (constantI S_ 32 1#32)) e) (broadcastInDim S1 ![] bcast_S_S1 (constantI S_ 32 127#32)))
    (broadcastInDim S1 ![] bcast_S_S1 (constantI S_ 32 23#32)))

/-- The reference's. -/
def rInv (e : IVec S1 32) : FVec Ideal S1 .f32 :=
  select (cmpi .sgt e (broadcastInDim S1 ![] bcast_S_S1 (constantI S_ 32 127#32)))
    (broadcastInDim S1 ![] bcast_S_S1 (constant (F := Ideal) S_ .f32 0x00000000#32))
    (Host.powf (broadcastInDim S1 ![] bcast_S_S1 (constant (F := Ideal) S_ .f32 0x40000000#32))
      (sitofp .f32 (subi (broadcastInDim S1 ![] bcast_S_S1 (constantI S_ 32 1#32)) e)))

/-- The kernel's call finds its inverse scale in its first operand … -/
theorem kernel_inv (m : (ℓ : Loc nD τ sig) → Buf (Elt Ideal) ℓ) (c : Dev nD) :
    V m c main_v27 = kInv (expo (count (mask kTable (m ((c : Thread nD τ).loc main_arg1)))) (m ((c : Thread nD τ).loc main_arg1))) := by
  unfold V hostOps0
  after_results
  rfl

/-- … and the weight scales in its last, as a row. -/
theorem kernel_ws (m : (ℓ : Loc nD τ sig) → Buf (Elt Ideal) ℓ) (c : Dev nD) :
    V m c main_v28 = shapeCast S1x1792 (m ((c : Thread nD τ).loc main_arg3)) shapeCasts_S1792_S1x1792 := by
  unfold V hostOps0
  after_results
  rfl

/-- The reference's call finds its own. -/
theorem ref_inv (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v30
      = rInv (rExpo (top (mask rTable (m ((c : Thread Cert.ReferenceIdeal.nD Cert.ReferenceIdeal.τ).loc Cert.ReferenceIdeal.main_arg1))))
          (m ((c : Thread Cert.ReferenceIdeal.nD Cert.ReferenceIdeal.τ).loc Cert.ReferenceIdeal.main_arg1))) := by
  unfold Cert.ReferenceIdeal.Gen.V Cert.ReferenceIdeal.Gen.hostOps0
  after_results
  rfl

/-! ## Powers of two -/

/-- The f32 whose exponent field is `p` and whose other bits are clear is `2 ^ (p - 127)`. -/
theorem ofBits_pow2 (p : ℕ) (h0 : 0 < p) (h : p < 255) :
    Ideal.ofBits .f32 (BitVec.ofNat 32 (p * 2 ^ 23)) = (((2 : ℝ) ^ ((p : ℤ) - 127) : ℝ) : EReal) := by
  have key : ∀ p : Fin 255, (BitVec.ofNat 32 (p.val * 2 ^ 23)).extractLsb' (8 + 23) 1 = 0#1
      ∧ ((BitVec.ofNat 32 (p.val * 2 ^ 23)).extractLsb' 23 8).toNat = p.val
      ∧ ((BitVec.ofNat 32 (p.val * 2 ^ 23)).extractLsb' 0 23).toNat = 0 := by decide +kernel
  obtain ⟨k1, k2, k3⟩ := key ⟨p, h⟩
  dsimp only at k1 k2 k3
  show Ideal.ieee 8 23 _ = _
  unfold Ideal.ieee
  rw [k1, k2, k3]
  rw [if_neg (by omega), if_neg (by omega)]
  congr 1
  have e : ((p : ℤ) - 127) = (p : ℤ) - (2 ^ (8 - 1) - 1) - (23 : ℕ) + 23 := by norm_num
  rw [e, zpow_add₀ (by norm_num : (2 : ℝ) ≠ 0)]
  norm_num
  ring

/-- A shift of the exponent into its field. -/
theorem shl_pow2 (p : ℕ) (h : p < 255) : IntOp.shli .host (BitVec.ofNat 32 p) 23#32 = BitVec.ofNat 32 (p * 2 ^ 23) := by
  have key : ∀ p : Fin 255, IntOp.shli .host (BitVec.ofNat 32 p.val) 23#32 = BitVec.ofNat 32 (p.val * 2 ^ 23) := by decide +kernel
  exact key ⟨p, h⟩

/-- The constant 2. -/
theorem ofBits_two : Ideal.ofBits .f32 0x40000000#32 = ((2 : ℝ) : EReal) := by
  have := ofBits_pow2 128 (by norm_num) (by norm_num)
  norm_num at this ⊢
  exact this

/-- Two to an integral power. -/
theorem pow_two_int (z : ℤ) : Ideal.pow ((2 : ℝ) : EReal) ((z : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

/-- The kernel's table at `k` is `2 ^ (k - 126)` … -/
theorem kTable_apply (k : Fin 254) : kTable (ix1 k) = (((2 : ℝ) ^ ((k.val : ℤ) - 126) : ℝ) : EReal) := by
  have hk : kTable (ix1 k) = Ideal.ofBits .f32 (IntOp.shli .host (BitVec.ofNat 32 k.val + 1#32) 23#32) := rfl
  have ha : (BitVec.ofNat 32 k.val + 1#32) = BitVec.ofNat 32 (k.val + 1) := (BitVec.ofNat_add ..).symm
  rw [hk, ha, shl_pow2 _ (by omega), ofBits_pow2 _ (by omega) (by omega)]
  congr 2
  omega

/-- … and so is the reference's. -/
theorem rTable_apply (k : Fin 254) : rTable (ix1 k) = (((2 : ℝ) ^ ((k.val : ℤ) - 126) : ℝ) : EReal) := by
  have hr : rTable (ix1 k) = Ideal.pow (Ideal.ofBits .f32 0x40000000#32)
      (((BitVec.ofNat 32 k.val - 125#32 - 1#32).toInt : ℝ) : EReal) := rfl
  have hi : (BitVec.ofNat 32 k.val - 125#32 - 1#32).toInt = (k.val : ℤ) - 126 := by
    have key : ∀ k : Fin 254, (BitVec.ofNat 32 k.val - 125#32 - 1#32).toInt = (k.val : ℤ) - 126 := by decide +kernel
    exact key k
  rw [hr, hi, ofBits_two, pow_two_int]

/-- The two tables are one. -/
theorem table_eq : kTable = rTable := by
  funext i
  obtain ⟨k, rfl⟩ : ∃ k : Fin 254, i = ix1 k := ⟨_, eq_ix1 i⟩
  rw [kTable_apply, rTable_apply]

/-! ## The mask is an initial segment, so its count gives its greatest exponent -/

/-- The mask of the first `t` entries. -/
def seg (t : ℕ) (k : Fin 254) : BitVec 1 := if k.val < t then 1#1 else 0#1

/-- A downward closed predicate on `Fin 254` holds of an initial segment. -/
theorem exists_seg (q : Fin 254 → Prop) (h : ∀ j k : Fin 254, j ≤ k → q k → q j) :
    ∃ t ≤ 254, ∀ k : Fin 254, q k ↔ k.val < t := by
  classical
  by_cases hall : ∀ k, q k
  · exact ⟨254, le_rfl, fun k => ⟨fun _ => k.isLt, fun _ => hall k⟩⟩
  · push Not at hall
    have hex : ∃ n, ∃ hn : n < 254, ¬ q ⟨n, hn⟩ := by
      obtain ⟨k, hk⟩ := hall
      exact ⟨k.val, k.isLt, hk⟩
    obtain ⟨hlt, hnot⟩ := Nat.find_spec hex
    refine ⟨Nat.find hex, hlt.le, fun k => ⟨fun hk => ?_, fun hk => ?_⟩⟩
    · by_contra hge
      exact hnot (h ⟨_, hlt⟩ k (by simpa [Fin.le_def] using hge) hk)
    · have := Nat.find_min hex hk
      push Not at this
      exact this k.isLt

/-- The mask of the reference's table at any scale is one. -/
theorem mask_seg (a : FVec Ideal S1 .f32) : ∃ t ≤ 254, ∀ k : Fin 254, mask rTable a (ix1 k) = seg t k := by
  classical
  obtain ⟨x, hx⟩ : ∃ x : EReal, ∀ k : Fin 254, broadcastInDim S254 ![0] bcast_S1_S254_0 (Host.absf a) (ix1 k) = x :=
    ⟨Host.absf a (ix1 0), fun k => congrArg (Host.absf a) ((eq_ix1 _).trans (congrArg ix1 (Subsingleton.elim (α := Fin 1) _ _)))⟩
  have hm : ∀ k : Fin 254, mask rTable a (ix1 k) = if rTable (ix1 k) ≤ x then 1#1 else 0#1 := fun k => by
    rw [← hx k]
    have e : mask rTable a (ix1 k)
        = Ideal.cmp .ole (rTable (ix1 k)) (broadcastInDim S254 ![0] bcast_S1_S254_0 (Host.absf a) (ix1 k)) := rfl
    rw [e]
    unfold Ideal.cmp
    by_cases h : rTable (ix1 k) ≤ broadcastInDim S254 ![0] bcast_S1_S254_0 (Host.absf a) (ix1 k)
    · rw [if_pos h]; simp [h]
    · rw [if_neg h]; simp [h]
  obtain ⟨t, ht, hs⟩ := exists_seg (fun k => rTable (ix1 k) ≤ x) (fun j k hjk hk => le_trans (by
    rw [rTable_apply, rTable_apply, EReal.coe_le_coe_iff]
    have : j.val ≤ k.val := hjk
    exact zpow_le_zpow_right₀ (by norm_num) (by omega)) hk)
  refine ⟨t, ht, fun k => ?_⟩
  rw [hm, seg]
  exact if_congr (hs k) rfl rfl

/-- A reduction of 254 entries to one folds over all of them. -/
theorem reduce_all (f : BitVec 32 → BitVec 32 → BitVec 32) (v : IVec S254 32) (b : BitVec 32) :
    Host.reduce f v (constantI S_ 32 b) reducesTo_S254_S_d0 h_S_ ix0
      = (List.finRange 254).foldl (fun r k => f r (v (ix1 k))) b := by
  have hfil : ((List.finRange S254.numel).filter fun n => reducesTo_S254_S_d0.drop (S254.rowMajor.symm n) = ix0)
      = List.finRange S254.numel := List.filter_eq_self.mpr fun n _ => decide_eq_true ((eq_ix0 _).trans (eq_ix0 _).symm)
  have e : Host.reduce f v (constantI S_ 32 b) reducesTo_S254_S_d0 h_S_ ix0
      = ((List.finRange S254.numel).filter fun n => reducesTo_S254_S_d0.drop (S254.rowMajor.symm n) = ix0).foldl
          (fun r n => f r (v (S254.rowMajor.symm n))) b := rfl
  rw [e, hfil]
  have hrm : ∀ k : Fin 254, (S254.rowMajor.symm k : S254.Idx) = ix1 k := fun k =>
    (Equiv.symm_apply_eq S254.rowMajor).mpr (Fin.ext (Shape.rowMajor_val_one (ix1 k)).symm)
  exact congrArg (fun g => (List.finRange 254).foldl g b) (funext fun r => funext fun k => congrArg (fun i => f r (v i)) (hrm k))

/-- The count of an initial segment is its length … -/
theorem fold_count : ∀ t : Fin 255,
    (List.finRange 254).foldl (fun r k => IntOp.addi r ((seg t.val k).setWidth 32)) 0#32 = BitVec.ofNat 32 t.val := by
  decide +kernel

/-- … and its greatest exponent is that less 126. -/
theorem fold_top : ∀ t : Fin 255,
    (List.finRange 254).foldl (fun r k => IntOp.maxsi r (Scalar.select (seg t.val k) (BitVec.ofNat 32 k.val - 125#32) 4294967170#32)) 2147483648#32
      = BitVec.ofNat 32 t.val - 126#32 := by
  decide +kernel

/-- Hence both are functions of one number. -/
theorem count_top (a : FVec Ideal S1 .f32) :
    ∃ n ≤ 254, count (mask rTable a) ix0 = BitVec.ofNat 32 n ∧ top (mask rTable a) ix0 = BitVec.ofNat 32 n - 126#32 := by
  obtain ⟨t, ht, hs⟩ := mask_seg a
  refine ⟨t, ht, ?_, ?_⟩
  · refine (reduce_all IntOp.addi _ 0#32).trans (Eq.trans ?_ (fold_count ⟨t, by omega⟩))
    exact congrArg (fun g => (List.finRange 254).foldl g 0#32)
      (funext fun r => funext fun k => congrArg (fun b : BitVec 1 => IntOp.addi r (b.setWidth 32)) (hs k))
  · refine (reduce_all IntOp.maxsi _ 2147483648#32).trans (Eq.trans ?_ (fold_top ⟨t, by omega⟩))
    exact congrArg (fun g => (List.finRange 254).foldl g 2147483648#32)
      (funext fun r => funext fun k => congrArg
        (fun b : BitVec 1 => IntOp.maxsi r (Scalar.select b (BitVec.ofNat 32 k.val - 125#32) 4294967170#32)) (hs k))

/-- The two exponents are one, and it is a number up to 254 less 126. -/
theorem expo_eq (a : FVec Ideal S1 .f32) (i : S1.Idx) :
    expo (count (mask rTable a)) a i = rExpo (top (mask rTable a)) a i
      ∧ ∃ n ≤ 254, expo (count (mask rTable a)) a i = BitVec.ofNat 32 n - 126#32 := by
  obtain ⟨n, hn, hc, ht⟩ := count_top a
  have hcj : ∀ j : S_.Idx, count (mask rTable a) j = BitVec.ofNat 32 n := fun j => (congrArg _ (eq_ix0 j)).trans hc
  have htj : ∀ j : S_.Idx, top (mask rTable a) j = BitVec.ofNat 32 n - 126#32 := fun j => (congrArg _ (eq_ix0 j)).trans ht
  obtain ⟨b, h1, h2⟩ : ∃ b : BitVec 1,
      (∀ p, expo p a i = Scalar.select (IntOp.cmpi .eq (broadcastInDim S1 ![] bcast_S_S1 p i) 0#32 ||| b) 0#32
        (broadcastInDim S1 ![] bcast_S_S1 p i - 126#32))
      ∧ ∀ p, rExpo p a i = Scalar.select (IntOp.cmpi .eq (broadcastInDim S1 ![] bcast_S_S1 p i) 4294967170#32 ||| b) 0#32
        (broadcastInDim S1 ![] bcast_S_S1 p i) := ⟨_, fun _ => rfl, fun _ => rfl⟩
  have hbc : broadcastInDim S1 ![] bcast_S_S1 (count (mask rTable a)) i = BitVec.ofNat 32 n := hcj _
  have hbt : broadcastInDim S1 ![] bcast_S_S1 (top (mask rTable a)) i = BitVec.ofNat 32 n - 126#32 := htj _
  rw [h1, h2, hbc, hbt]
  have hz : ∀ n : Fin 255, IntOp.cmpi .eq (BitVec.ofNat 32 n.val - 126#32) 4294967170#32
      = IntOp.cmpi .eq (BitVec.ofNat 32 n.val) 0#32 := by decide +kernel
  have hz' := hz ⟨n, by omega⟩
  dsimp only at hz'
  rw [hz']
  refine ⟨rfl, ?_⟩
  unfold Scalar.select
  split
  · exact ⟨126, by norm_num, by decide⟩
  · exact ⟨n, hn, rfl⟩

/-! ## The inverse scales -/

/-- On such exponents the two inverse scales are equal. -/
theorem inv_eq (e : IVec S1 32) (i : S1.Idx) (n : ℕ) (hn : n ≤ 254) (he : e i = BitVec.ofNat 32 n - 126#32) :
    kInv e i = rInv e i := by
  have hk : kInv e i = Ideal.ofBits .f32 (IntOp.shli .host (1#32 - e i + 127#32) 23#32) := rfl
  have hr : rInv e i = Scalar.select (IntOp.cmpi .sgt (e i) 127#32) (Ideal.ofBits .f32 0x00000000#32)
      (Ideal.pow (Ideal.ofBits .f32 0x40000000#32) (((1#32 - e i).toInt : ℝ) : EReal)) := rfl
  have key : ∀ n : Fin 255, 1#32 - (BitVec.ofNat 32 n.val - 126#32) + 127#32 = BitVec.ofNat 32 (254 - n.val)
      ∧ (1#32 - (BitVec.ofNat 32 n.val - 126#32)).toInt = 127 - (n.val : ℤ)
      ∧ IntOp.cmpi .sgt (BitVec.ofNat 32 n.val - 126#32) 127#32 = if n.val = 254 then 1#1 else 0#1 := by decide +kernel
  obtain ⟨k1, k2, k3⟩ := key ⟨n, by omega⟩
  dsimp only at k1 k2 k3
  rw [hk, hr, he, k1, k2, k3]
  by_cases h : n = 254
  · subst h
    rfl
  · rw [if_neg h, shl_pow2 _ (by omega), ofBits_pow2 _ (by omega) (by omega), ofBits_two, pow_two_int]
    show _ = (((2 : ℝ) ^ (127 - (n : ℤ)) : ℝ) : EReal)
    congr 2
    omega

/-- The kernel's inverse scale is the reference's. -/
theorem scale_eq (a : FVec Ideal S1 .f32) :
    kInv (expo (count (mask kTable a)) a) = rInv (rExpo (top (mask rTable a)) a) := by
  rw [table_eq, show rExpo (top (mask rTable a)) a = expo (count (mask rTable a)) a from
    funext fun i => (expo_eq a i).1.symm]
  funext i
  obtain ⟨n, hn, e⟩ := (expo_eq a i).2
  exact inv_eq _ i n hn e

end Cert.Proof.Scale

end
-- ==== Proof.Claims.lean ====
/-
  The claims. The frames are generated; the value claim sets the kernel's run beside the reference's: the same two
  functions of the arguments, at inverse scales that Scale.lean proves equal; the third result is the scale itself.
-/
module

public import proofs.«01_k».proof.Defs
public import proofs.«01_k».proof.Proof.Gen.Kernel.Frame
public import proofs.«01_k».proof.Proof.KernelArr
public import proofs.«01_k».proof.Proof.RefArr
public import proofs.«01_k».proof.Proof.Scale

@[expose] public section

noncomputable section

namespace Cert.Proof.Claims

open Idealize.ShloMosaic Idealize.ShloMosaic.TcCoe Idealize.SL.Sem Idealize.ShloMosaic.ValueIdx
open Cert.Proof.Spec

theorem frame_kernel : Cert.quiescent_Kernel := fun m ρ _ => Cert.Kernel.Gen.frame m ρ
theorem frame_kernel_ideal : Cert.quiescent_KernelIdeal := fun m ρ _ => Cert.KernelIdeal.Gen.frame m ρ
theorem frame_reference_ideal : Cert.quiescent_ReferenceIdeal := fun m ρ _ => Cert.ReferenceIdeal.Gen.frame m ρ
theorem preserves : Cert.preserves_Kernel_KernelIdeal := trivial

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h1 in
/-- The inverse scales that the two calls find are equal. -/
theorem inv_agree :
    Cert.ReferenceIdeal.Gen.V m' c Cert.ReferenceIdeal.main_v30 = Cert.KernelIdeal.Gen.V m c Cert.KernelIdeal.main_v27 := by
  refine (Scale.ref_inv m' c).trans (Eq.trans ?_ (Scale.kernel_inv m c).symm)
  rw [h1]
  exact (Scale.scale_eq _).symm

include h0 h1 h2 h3 in
/-- So the first results are equal … -/
theorem y_agree : RefArr.yG m' c = KernelArr.yG m c := by
  have hws : ∀ n : Fin 1792, Cert.KernelIdeal.Gen.V m c Cert.KernelIdeal.main_v28 (ix2 0 n)
      = m ((c.tc : Thread Cert.KernelIdeal.nD Cert.KernelIdeal.τ).loc Cert.KernelIdeal.main_arg3) (ix1 n) := fun n => by
    refine (congrFun (Scale.kernel_ws m c) (ix2 0 n)).trans ?_
    rw [shapeCast_addUnit_apply (![1792])]
    refine congrArg _ (funext fun a => ?_)
    match a with | ⟨0, _⟩ => rfl
  unfold RefArr.yG KernelArr.yG
  have e3 : (fun n : Fin 1792 => Cert.ReferenceIdeal.Gen.V m' c Cert.ReferenceIdeal.main_arg3 (ix1 n))
      = fun n : Fin 1792 => Cert.KernelIdeal.Gen.V m c Cert.KernelIdeal.main_v28 (ix2 0 n) := by
    funext n
    rw [hws n, Cert.ReferenceIdeal.Gen.V_main_arg3]
    exact congrFun h3 (ix1 n)
  rw [e3, Cert.ReferenceIdeal.Gen.V_main_arg0, Cert.ReferenceIdeal.Gen.V_main_arg1, Cert.ReferenceIdeal.Gen.V_main_arg2,
    Cert.KernelIdeal.Gen.V_main_arg0, Cert.KernelIdeal.Gen.V_main_arg1, Cert.KernelIdeal.Gen.V_main_arg2, h0, h1, h2,
    inv_agree m m' c h1]

include h0 h1 in
/-- … and the codes are. -/
theorem code_agree : RefArr.codeG m' c = KernelArr.codeG m c := by
  unfold RefArr.codeG KernelArr.codeG
  rw [Cert.ReferenceIdeal.Gen.V_main_arg0, Cert.KernelIdeal.Gen.V_main_arg0, h0, inv_agree m m' c h1]

end Agree

/-- The kernel computes the reference: all three results, on every input. -/
theorem algebraic : Cert.algebraic_KernelIdeal_ReferenceIdeal := by
  intro m ρ m' ρ' _ hagree
  refine ⟨fun c => KernelArr.yG m c, fun c => KernelArr.codeG m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Value.run_blocks (F := Ideal) m ρ)
    obtain ⟨hy, hc, h0, h1, h2, h3⟩ := h c
    exact ⟨hy.trans (KernelArr.final5 m c), hc.trans (KernelArr.final6 m c), h1, h0, h1, h2, h3⟩
  · refine (θ_run Cert.ReferenceIdeal.defs _ _).mono (fun r h c => ?_) (Cert.ReferenceIdeal.Value.run_blocks (F := Ideal) m' ρ')
    obtain ⟨hy, hc, h0, h1, h2, h3⟩ := h c
    obtain ⟨a0, a1, a2, a3⟩ := hagree c
    exact ⟨(hy.trans (RefArr.final5 m' c)).trans (y_agree m m' c a0 a1 a2 a3),
      (hc.trans (RefArr.final6 m' c)).trans (code_agree m m' c a0 a1), h1.trans a1, h0, h1, h2, h3⟩

end Cert.Proof.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts,
    Claims.frame_kernel, Claims.frame_kernel_ideal, Claims.frame_reference_ideal, Claims.preserves, Claims.algebraic⟩

end Cert.Proof

end
